-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S65536x128 : Shape := ⟨2, ![65536, 128]⟩
abbrev S512x128 : Shape := ⟨2, ![512, 128]⟩
abbrev S_ : Shape := ⟨0, ![]⟩

abbrev nBuf : Table → Nat
  | .hbm => 4
  | .local .tc .vmem => 5
  | .local .scVector .vmem => 2
  | _ => 0

abbrev bufTy : (tb : Table) → Fin (nBuf tb) → BufTy
  | .hbm, ⟨0, _⟩ => ⟨S1024x128, .f32⟩
  | .hbm, ⟨1, _⟩ => ⟨S65536x128, .f32⟩
  | .hbm, ⟨2, _⟩ => ⟨S65536x128, .f32⟩
  | .hbm, ⟨3, _⟩ => ⟨S65536x128, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S1024x128, .f32⟩
  | .local .scVector .vmem, ⟨0, _⟩ => ⟨S512x128, .f32⟩
  | .local .scVector .vmem, ⟨1, _⟩ => ⟨S512x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32 : BitVec 32 := 0#32
  ![v2.toNat, 0]
def k0_off2 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v7 : BitVec 32 := Scalar.addi v2 c0_i32_3
  let c0_i32_4 : BitVec 32 := 0#32
  ![v7.toNat, 0]
abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S65536x128 : Shape := ⟨2, ![65536, 128]⟩
abbrev S66560x128 : Shape := ⟨2, ![66560, 128]⟩

abbrev nBuf : Space → Nat
  | .hbm => 4
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S65536x128, .f32⟩
  | .hbm, ⟨2, _⟩ => ⟨S66560x128, .f32⟩
  | .hbm, ⟨3, _⟩ => ⟨S65536x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Setup.lean ====
/-
  The program as the launch theorem reads it: its SparseCore configuration, the table of its kernels' bodies, the ghost
  state the proof uses, and names for the four arrays of `@main`. `keys` is argument 1, `new_keys` argument 0; the
  first result is the copy of `keys` the SparseCores make, the second the shifted queue the TensorCore writes.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels under which the TensorCore's pipeline and the kernels are called. -/
abbrev ΛP : Labels := Pipeline.Sig Λ₀ (Fin 1) fun p => (pcfgs (F := F) p).Adm
/-- The SparseCore launches of the program: one. -/
abbrev K : SparseCore.Cfg τ sig (ΛP (F := F)) 1 := sc (F := F)
/-- The one call runs on two SparseCores, -/
theorem nCore_zero : (K (F := F)).nCore 0 = 2 := rfl
/-- on sixteen tiles of each. -/
theorem nSub_zero : (K (F := F)).nSub 0 = 16 := rfl
/-- The bodies of the pipeline and of the kernels. -/
abbrev D [FloatOps F] : Defs nD τ sig (Elt F) (ΛP (F := F)) := Pipeline.defs pcfgs defs₀
/-- No kernel has a loop variant of its own, -/
abbrev 𝒱₀ : Variants := Variants.none
/-- the pipeline's loop has one. -/
abbrev 𝒱 : Variants := 𝒱₀.lift
/-- The variant the kernels are entered at. -/
abbrev v₀ : 𝒱.V := Sum.inl none

/-- The launch handshakes' semaphores are distinct and outlive the kernels, and no SparseCore buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds lie, -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The arrays of `@main` -/

/-- `new_keys`, -/
abbrev nLoc (d : Dev nD) : Loc nD τ sig := (SparseCore.T d).loc main_arg0
/-- `keys`, -/
abbrev kLoc (d : Dev nD) : Loc nD τ sig := (SparseCore.T d).loc main_arg1
/-- the first result, the copy of `keys`, -/
abbrev cLoc (d : Dev nD) : Loc nD τ sig := (SparseCore.T d).loc main_v0
/-- the second result, the shifted queue. -/
abbrev qLoc (d : Dev nD) : Loc nD τ sig := (SparseCore.T d).loc main_v1

end Cert.Proof.Queue

end
-- ==== Proof.Rows.lean ====
/-
  Which rows of an array of 65536 rows each SparseCore, each of its tiles and each of a tile's four copies works on.
  Tile `s` of SparseCore `c` has rows `[2048 (2 s + c), 2048 (2 s + c + 1))`, and copy `r` of the tile the 512 of them
  from `2048 (2 s + c) + 512 r` on. Every row belongs to exactly one copy of one tile, so that the array held whole is
  the same as its parts held side by side.
-/
module

public import proofs.«01_k».proof.Proof.Setup

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The sets of rows -/

/-- The rows of SparseCore `c`. -/
def coreRows (c : Fin 2) : Finset S65536x128.Idx := Finset.univ.filter fun i => (i 0).val / 2048 % 2 = c.val
/-- The rows of its tile `s`. -/
def tileRows (c : Fin 2) (s : Fin 16) : Finset S65536x128.Idx := Finset.univ.filter fun i => (i 0).val / 2048 = 2 * s.val + c.val
/-- The rows of the tile's copy `r`. -/
def copyRows (c : Fin 2) (s : Fin 16) (r : Fin 4) : Finset S65536x128.Idx :=
  Finset.univ.filter fun i => (i 0).val / 512 = 8 * s.val + 4 * c.val + r.val

/-- A row of the queue has a number below 65536. -/
theorem row_lt (i : S65536x128.Idx) : (i 0).val < 65536 := (i 0).isLt

/-- The 512 rows from a copy's first on are the copy's. -/
theorem copyRows_eq (c : Fin 2) (s : Fin 16) (r : Fin 4) (off : Fin 2 → Nat) (h : ∀ a, off a + S512x128.size a ≤ S65536x128.size a)
    (h0 : off 0 = 4096 * s.val + 2048 * c.val + 512 * r.val) (h1 : off 1 = 0) :
    (Rect.unit (s := S65536x128) off S512x128.size h).set = copyRows c s r := by
  ext i
  rw [Rect.mem_set_unit]; simp only [copyRows, Finset.mem_filter, Finset.mem_univ, true_and]
  have hi1 : (i 1).val < 128 := (i 1).isLt
  constructor
  · intro hi
    have := hi 0; rw [h0] at this
    have e : (![512, 128] : Fin 2 → Nat) 0 = 512 := rfl
    rw [e] at this; omega
  · intro hi a
    match a with
    | 0 => rw [h0]; have e : (![512, 128] : Fin 2 → Nat) 0 = 512 := rfl
           rw [e]; omega
    | 1 => rw [h1]; have e : (![512, 128] : Fin 2 → Nat) 1 = 128 := rfl
           rw [e]; omega

/-! ## An array whole, and its parts side by side -/

/-- An array of 65536 rows is its two SparseCores' rows, -/
theorem cores_cover : (Finset.univ : Finset (Fin 2)).biUnion coreRows = Finset.univ := by
  ext i
  simp only [coreRows, Finset.mem_biUnion, Finset.mem_univ, true_and, Finset.mem_filter, iff_true]
  exact ⟨⟨(i 0).val / 2048 % 2, Nat.mod_lt _ (by omega)⟩, rfl⟩
/-- The two SparseCores have no row in common. -/
theorem cores_disjoint : ∀ c ∈ (Finset.univ : Finset (Fin 2)), ∀ c' ∈ (Finset.univ : Finset (Fin 2)), c ≠ c' → Disjoint (coreRows c) (coreRows c') := by
  intro c _ c' _ h
  refine Finset.disjoint_left.mpr fun i h1 h2 => h (Fin.ext ?_)
  simp only [coreRows, Finset.mem_filter, Finset.mem_univ, true_and] at h1 h2
  omega

/-- a SparseCore's rows are its sixteen tiles', -/
theorem tiles_cover (c : Fin 2) : (Finset.univ : Finset (Fin 16)).biUnion (tileRows c) = coreRows c := by
  ext i
  have := row_lt i
  simp only [coreRows, tileRows, Finset.mem_biUnion, Finset.mem_univ, true_and, Finset.mem_filter]
  constructor
  · rintro ⟨s, hs⟩; omega
  · intro h; exact ⟨⟨(i 0).val / 2048 / 2, by omega⟩, by show _ = 2 * ((i 0).val / 2048 / 2) + _; omega⟩
/-- Two tiles of a SparseCore have no row in common. -/
theorem tiles_disjoint (c : Fin 2) :
    ∀ s ∈ (Finset.univ : Finset (Fin 16)), ∀ s' ∈ (Finset.univ : Finset (Fin 16)), s ≠ s' → Disjoint (tileRows c s) (tileRows c s') := by
  intro s _ s' _ h
  refine Finset.disjoint_left.mpr fun i h1 h2 => h (Fin.ext ?_)
  simp only [tileRows, Finset.mem_filter, Finset.mem_univ, true_and] at h1 h2
  omega

/-- and a tile's rows are its four copies'. -/
theorem copies_cover (c : Fin 2) (s : Fin 16) : (Finset.univ : Finset (Fin 4)).biUnion (copyRows c s) = tileRows c s := by
  ext i
  have := row_lt i
  simp only [copyRows, tileRows, Finset.mem_biUnion, Finset.mem_univ, true_and, Finset.mem_filter]
  constructor
  · rintro ⟨r, hr⟩; omega
  · intro h
    exact ⟨⟨(i 0).val / 512 % 4, by omega⟩, by show _ = 8 * s.val + 4 * c.val + (i 0).val / 512 % 4; omega⟩
/-- Two of a tile's copies have no row in common. -/
theorem copies_disjoint (c : Fin 2) (s : Fin 16) :
    ∀ r ∈ (Finset.univ : Finset (Fin 4)), ∀ r' ∈ (Finset.univ : Finset (Fin 4)), r ≠ r' → Disjoint (copyRows c s r) (copyRows c s r') := by
  intro r _ r' _ h
  refine Finset.disjoint_left.mpr fun i h1 h2 => h (Fin.ext ?_)
  simp only [copyRows, Finset.mem_filter, Finset.mem_univ, true_and] at h1 h2
  omega

/-- `keys` whole is the two SparseCores' rows of it, -/
theorem keys_cores (d : Dev nD) (f : Buf (Elt F) (kLoc d)) :
    (kLoc d ↦{fullShare} f : sProp 𝕄) = bigSep Finset.univ fun c : Fin 2 => kLoc d ↦[coreRows c]{fullShare} f := by
  rw [← pointsTo_biUnion Finset.univ (ℓ := kLoc d) coreRows cores_disjoint, cores_cover]; try rfl
/-- a SparseCore's are its tiles', -/
theorem keys_tiles (d : Dev nD) (c : Fin 2) (f : Buf (Elt F) (kLoc d)) :
    (kLoc d ↦[coreRows c]{fullShare} f : sProp 𝕄) = bigSep Finset.univ fun s : Fin 16 => kLoc d ↦[tileRows c s]{fullShare} f := by
  rw [← pointsTo_biUnion Finset.univ (ℓ := kLoc d) (tileRows c) (tiles_disjoint c), tiles_cover]
/-- a tile's are its copies'. -/
theorem keys_copies (d : Dev nD) (c : Fin 2) (s : Fin 16) (f : Buf (Elt F) (kLoc d)) :
    (kLoc d ↦[tileRows c s]{fullShare} f : sProp 𝕄) = bigSep Finset.univ fun r : Fin 4 => kLoc d ↦[copyRows c s r]{fullShare} f := by
  rw [← pointsTo_biUnion Finset.univ (ℓ := kLoc d) (copyRows c s) (copies_disjoint c s), copies_cover]

/-- The first result whole is the two SparseCores' rows of it, -/
theorem copy_cores (d : Dev nD) (f : Buf (Elt F) (cLoc d)) :
    (cLoc d ↦{fullShare} f : sProp 𝕄) = bigSep Finset.univ fun c : Fin 2 => cLoc d ↦[coreRows c]{fullShare} f := by
  rw [← pointsTo_biUnion Finset.univ (ℓ := cLoc d) coreRows cores_disjoint, cores_cover]; try rfl
/-- a SparseCore's are its tiles', -/
theorem copy_tiles (d : Dev nD) (c : Fin 2) (f : Buf (Elt F) (cLoc d)) :
    (cLoc d ↦[coreRows c]{fullShare} f : sProp 𝕄) = bigSep Finset.univ fun s : Fin 16 => cLoc d ↦[tileRows c s]{fullShare} f := by
  rw [← pointsTo_biUnion Finset.univ (ℓ := cLoc d) (tileRows c) (tiles_disjoint c), tiles_cover]
/-- a tile's are its copies'. -/
theorem copy_copies (d : Dev nD) (c : Fin 2) (s : Fin 16) (f : Buf (Elt F) (cLoc d)) :
    (cLoc d ↦[tileRows c s]{fullShare} f : sProp 𝕄) = bigSep Finset.univ fun r : Fin 4 => cLoc d ↦[copyRows c s r]{fullShare} f := by
  rw [← pointsTo_biUnion Finset.univ (ℓ := cLoc d) (copyRows c s) (copies_disjoint c s), copies_cover]

end Cert.Proof.Queue

end
-- ==== Proof.Tile.lean ====
/-
  What one tile of a SparseCore does. Tile `s` of SparseCore `c` copies its 2048 rows of `keys` into the first result
  in four copies of 512 rows, through two buffers of its own memory in turn: a copy reads its rows into a buffer and
  writes the buffer out, and the write of one copy is still under way while the next is read. When the tile is done,
  its rows of the first result are its rows of `keys`, its rows of `keys` are as they were, and its semaphores are at
  zero.
-/
module

public import proofs.«01_k».proof.Proof.Rows
public import proofs.«01_k».proof.Proof.Gen.KernelIdeal.Skeleton

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and the buffers as a tile addresses them -/

abbrev keysV : Memref sig .scVector .hbm S65536x128 .f32 := Memref.whole main_arg1_scv
abbrev copyV : Memref sig .scVector .hbm S65536x128 .f32 := Memref.whole main_v0_scv
abbrev bufA : Memref sig .scVector .vmem S512x128 .f32 := Memref.whole cc0_scratch0
abbrev bufB : Memref sig .scVector .vmem S512x128 .f32 := Memref.whole cc0_scratch1

variable (d : Dev nD) (L : grid0.Coords)

/-- The SparseCore and the tile of a grid point, as the program counts them. -/
abbrev cV : Fin τ.nSC := (L 0).castLE hcore0
abbrev jV : Fin τ.nSub := (L 1).castLE hsub0
omit [FloatOps F] in
/-- There are two SparseCores. -/
theorem bound_zero : grid0.bound 0 = 2 := rfl
omit [FloatOps F] in
/-- A SparseCore has sixteen tiles. -/
theorem bound_one : grid0.bound 1 = 16 := rfl
/-- The same two, as the rows are counted by them. -/
abbrev cL : Fin 2 := Fin.cast bound_zero (L 0)
abbrev sL : Fin 16 := Fin.cast bound_one (L 1)

/-- The 512 rows of the first copy, as it is read, -/
abbrev rectRead : Rect S65536x128 := Rect.unit (s := S65536x128) (k0_off1 L) S512x128.size (k0_off1_inb L)
/-- and the 512 rows of copy `r`, as it is written and as a later copy is read. -/
abbrev rect0 : Rect S65536x128 := Rect.unit (s := S65536x128) (k0_off2 L 0#32) S512x128.size (k0_off2_inb L 0)
abbrev rect1 : Rect S65536x128 := Rect.unit (s := S65536x128) (k0_off2 L 512#32) S512x128.size (k0_off2_inb L 1)
abbrev rect2 : Rect S65536x128 := Rect.unit (s := S65536x128) (k0_off2 L 1024#32) S512x128.size (k0_off2_inb L 2)
abbrev rect3 : Rect S65536x128 := Rect.unit (s := S65536x128) (k0_off2 L 1536#32) S512x128.size (k0_off2_inb L 3)

abbrev keysR : Memref sig .scVector .hbm S512x128 .f32 := (keysV).slice (rectRead L) (fun _ => rfl)
abbrev keys1 : Memref sig .scVector .hbm S512x128 .f32 := (keysV).slice (rect1 L) (fun _ => rfl)
abbrev keys2 : Memref sig .scVector .hbm S512x128 .f32 := (keysV).slice (rect2 L) (fun _ => rfl)
abbrev keys3 : Memref sig .scVector .hbm S512x128 .f32 := (keysV).slice (rect3 L) (fun _ => rfl)
abbrev copy0 : Memref sig .scVector .hbm S512x128 .f32 := (copyV).slice (rect0 L) (fun _ => rfl)
abbrev copy1 : Memref sig .scVector .hbm S512x128 .f32 := (copyV).slice (rect1 L) (fun _ => rfl)
abbrev copy2 : Memref sig .scVector .hbm S512x128 .f32 := (copyV).slice (rect2 L) (fun _ => rfl)
abbrev copy3 : Memref sig .scVector .hbm S512x128 .f32 := (copyV).slice (rect3 L) (fun _ => rfl)

omit [FloatOps F] in
/-- The first read takes the rows of the tile's copy 0. -/
theorem set_rectRead : (rectRead L).set = copyRows (cL L) (sL L) 0 :=
  copyRows_eq _ _ 0 _ _ (by rw [k0_off1_eq]; show 4096 * (L 1).val + 2048 * (L 0).val = 4096 * (L 1).val + 2048 * (L 0).val + 512 * 0; omega)
    (by rw [k0_off1_eq]; rfl)
omit [FloatOps F] in
/-- The first write fills the rows of copy 0. -/
theorem set_rect0 : (rect0 L).set = copyRows (cL L) (sL L) 0 :=
  copyRows_eq _ _ 0 _ _ (congrFun (k0_off2_eq L 0) 0) (congrFun (k0_off2_eq L 0) 1)
omit [FloatOps F] in
/-- The second read and write are of the rows of copy 1. -/
theorem set_rect1 : (rect1 L).set = copyRows (cL L) (sL L) 1 :=
  copyRows_eq _ _ 1 _ _ (congrFun (k0_off2_eq L 1) 0) (congrFun (k0_off2_eq L 1) 1)
omit [FloatOps F] in
/-- The third read and write are of the rows of copy 2. -/
theorem set_rect2 : (rect2 L).set = copyRows (cL L) (sL L) 2 :=
  copyRows_eq _ _ 2 _ _ (congrFun (k0_off2_eq L 2) 0) (congrFun (k0_off2_eq L 2) 1)
omit [FloatOps F] in
/-- The fourth read and write are of the rows of copy 3. -/
theorem set_rect3 : (rect3 L).set = copyRows (cL L) (sL L) 3 :=
  copyRows_eq _ _ 3 _ _ (congrFun (k0_off2_eq L 3) 0) (congrFun (k0_off2_eq L 3) 1)
omit [FloatOps F] in
/-- The first copy is read where it is written. -/
theorem off_read : k0_off1 L = k0_off2 L 0#32 := by
  rw [show k0_off2 L 0#32 = _ from k0_off2_eq L 0, k0_off1_eq]; rfl

omit [FloatOps F] in
/-- Rows of `keys` that a rectangle cuts out are the part of `keys` that lies in it, -/
theorem pts_keys (r : Rect S65536x128) (h : ∀ a, r.stride a = 1) (I : Finset S65536x128.Idx) (hr : r.set = I) (f : Buf (Elt F) (kLoc d)) :
    (((keysV).slice r h).view.loc (V d (cV L) (jV L)) ↦[((keysV).slice r h).view.set]{fullShare} f : sProp 𝕄) = kLoc d ↦[I]{fullShare} f := by
  subst hr
  rw [show ((keysV).slice r h).view.set = r.set from View.set_slice_whole _ _]
omit [FloatOps F] in
/-- and rows of the first result the same. -/
theorem pts_copy (r : Rect S65536x128) (h : ∀ a, r.stride a = 1) (I : Finset S65536x128.Idx) (hr : r.set = I) (f : Buf (Elt F) (cLoc d)) :
    (((copyV).slice r h).view.loc (V d (cV L) (jV L)) ↦[((copyV).slice r h).view.set]{fullShare} f : sProp 𝕄) = cLoc d ↦[I]{fullShare} f := by
  subst hr
  rw [show ((copyV).slice r h).view.set = r.set from View.set_slice_whole _ _]
omit [FloatOps F] in
/-- The first buffer held whole is the first buffer held as the program names it. -/
theorem pts_bufA (f : Buf (Elt F) ((V d (cV L) (jV L)).loc cc0_scratch0)) :
    ((bufA).view.loc (V d (cV L) (jV L)) ↦{fullShare} f : sProp 𝕄) = (V d (cV L) (jV L)).loc cc0_scratch0 ↦{fullShare} f := rfl
omit [FloatOps F] in
/-- The second buffer held whole is the second buffer held as the program names it. -/
theorem pts_bufB (f : Buf (Elt F) ((V d (cV L) (jV L)).loc cc0_scratch1)) :
    ((bufB).view.loc (V d (cV L) (jV L)) ↦{fullShare} f : sProp 𝕄) = (V d (cV L) (jV L)).loc cc0_scratch1 ↦{fullShare} f := rfl

/-! ## What a tile owns besides -/

/-- The tile's four semaphores: of its reads into either buffer, and of its writes from either. -/
abbrev semRA (d : Dev nD) (c : Fin τ.nSC) (i : Fin τ.nSub) : GSem nD τ sig := (V d c i, .dma cc0_scratch2.sem)
abbrev semRB (d : Dev nD) (c : Fin τ.nSC) (i : Fin τ.nSub) : GSem nD τ sig := (V d c i, .dma cc0_scratch3.sem)
abbrev semWA (d : Dev nD) (c : Fin τ.nSC) (i : Fin τ.nSub) : GSem nD τ sig := (V d c i, .dma cc0_scratch4.sem)
abbrev semWB (d : Dev nD) (c : Fin τ.nSC) (i : Fin τ.nSub) : GSem nD τ sig := (V d c i, .dma cc0_scratch5.sem)

omit [FloatOps F] in
/-- The tile's semaphores are those four and the others. -/
theorem ownSems0_V :
    (ownSems0 (V d (cV L) (jV L)) : sProp 𝕄)
      = iprop(semVal (semRA d (cV L) (jV L)) 0 ∗ semVal (semRB d (cV L) (jV L)) 0 ∗ semVal (semWA d (cV L) (jV L)) 0 ∗ semVal (semWB d (cV L) (jV L)) 0
          ∗ bigSep (((((ownCells (V d (cV L) (jV L))).erase (semRA d (cV L) (jV L))).erase (semRB d (cV L) (jV L))).erase
              (semWA d (cV L) (jV L))).erase (semWB d (cV L) (jV L))) fun g => semVal g 0) := by
  have hA : semRA d (cV L) (jV L) ∈ ownCells (V d (cV L) (jV L)) := mem_ownCells.mpr ⟨rfl, by
    show (SemLoc.dma cc0_scratch2.sem : SemLoc sig).isScoped .scVector = true; decide⟩
  have hB : semRB d (cV L) (jV L) ∈ ownCells (V d (cV L) (jV L)) := mem_ownCells.mpr ⟨rfl, by
    show (SemLoc.dma cc0_scratch3.sem : SemLoc sig).isScoped .scVector = true; decide⟩
  have hC : semWA d (cV L) (jV L) ∈ ownCells (V d (cV L) (jV L)) := mem_ownCells.mpr ⟨rfl, by
    show (SemLoc.dma cc0_scratch4.sem : SemLoc sig).isScoped .scVector = true; decide⟩
  have hD : semWB d (cV L) (jV L) ∈ ownCells (V d (cV L) (jV L)) := mem_ownCells.mpr ⟨rfl, by
    show (SemLoc.dma cc0_scratch5.sem : SemLoc sig).isScoped .scVector = true; decide⟩
  have ne (a b : SemLoc sig) (h : a ≠ b) : ((V d (cV L) (jV L), a) : GSem nD τ sig) ≠ (V d (cV L) (jV L), b) := fun e => h (congrArg Prod.snd e)
  unfold SparseCore.Cfg.ownSems0
  rw [SparseCore.bigSep_erase' hA,
    SparseCore.bigSep_erase' (Finset.mem_erase.mpr ⟨ne _ _ (by decide), hB⟩),
    SparseCore.bigSep_erase' (Finset.mem_erase.mpr ⟨ne _ _ (by decide), Finset.mem_erase.mpr ⟨ne _ _ (by decide), hC⟩⟩),
    SparseCore.bigSep_erase' (Finset.mem_erase.mpr ⟨ne _ _ (by decide), Finset.mem_erase.mpr ⟨ne _ _ (by decide),
      Finset.mem_erase.mpr ⟨ne _ _ (by decide), hD⟩⟩⟩)]

omit [FloatOps F] in
/-- The tile's memory is its two buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What a copy leaves -/

omit [FloatOps F] in
/-- Rows `off` to `off + 512` of the first result, written with what the same rows of `keys` were read as, hold what
    `keys` holds there. -/
theorem written_eq {off off' : Fin 2 → Nat} (e : off' = off) (h : ∀ a, off a + S512x128.size a ≤ S65536x128.size a)
    (h' : ∀ a, off' a + S512x128.size a ≤ S65536x128.size a) (f g : Buf (Elt F) (cLoc d)) (w : S512x128.Idx → Elt F .f32)
    (hw : w = ((keysV).slice (Rect.unit (s := S65536x128) off' S512x128.size h') (fun _ => rfl)).view.read (Elt F) g) (I : Finset S65536x128.Idx)
    (hI : (Rect.unit (s := S65536x128) off S512x128.size h).set = I) :
    ∀ i ∈ I, ((copyV).slice (Rect.unit (s := S65536x128) off S512x128.size h) (fun _ => rfl)).view.writes (Elt F) f
      [⟨Rect.whole S512x128, w⟩] i = g i := by
  subst e; subst hI; intro i hi
  rw [← show ((copyV).slice (Rect.unit (s := S65536x128) off' S512x128.size h) (fun _ => rfl)).view.set
    = (Rect.unit (s := S65536x128) off' S512x128.size h).set from View.set_slice_whole _ _] at hi
  obtain ⟨x, -, rfl⟩ := Finset.mem_map.mp hi
  have e1 := congrFun (View.read_write_univ (v := ((copyV).slice (Rect.unit (s := S65536x128) off' S512x128.size h) (fun _ => rfl)).view)
    (Val := Elt F) f w) x
  rw [View.read_apply, cast_eq] at e1
  refine (congrFun (View.write_univ_eq_writes_whole ((copyV).slice (Rect.unit (s := S65536x128) off' S512x128.size h) (fun _ => rfl)).view
    f [] w).symm _).trans (e1.trans ?_)
  rw [hw]
  exact (View.read_apply _ _).trans (cast_eq _ _)

omit [FloatOps F] in
/-- A buffer of the tile written whole is read back as what was written, whatever it held. -/
theorem read_bufA (f w : S512x128.Idx → Elt F .f32) :
    (bufA).view.read (Elt F) (View.write (Elt F) (bufA).view f w Finset.univ) = w := View.read_write_univ _ _
omit [FloatOps F] in
/-- What has been written over the whole of the second buffer is what is read from it. -/
theorem read_bufB (f w : S512x128.Idx → Elt F .f32) :
    (bufB).view.read (Elt F) (View.write (Elt F) (bufB).view f w Finset.univ) = w := View.read_write_univ _ _

/-! ## The tile's run -/

variable (m : (ℓ : Loc nD τ sig) → Buf (Elt F) ℓ)

/-- Rows `I` of `keys` as the launch finds them, -/
abbrev keysPts (d : Dev nD) (I : Finset S65536x128.Idx) : sProp 𝕄 := kLoc d ↦[I]{fullShare} m (kLoc d)
/-- rows `I` of the first result before the launch, -/
abbrev freshPts (d : Dev nD) (I : Finset S65536x128.Idx) : sProp 𝕄 := cLoc d ↦[I]{fullShare} m (cLoc d)
/-- and the same rows once they hold what `keys` does. -/
abbrev donePts (d : Dev nD) (I : Finset S65536x128.Idx) : sProp 𝕄 := cLoc d ↦[I]{fullShare} (m (kLoc d) : Buf (Elt F) (cLoc d))

omit [FloatOps F] in
/-- Four things held side by side, listed one by one. -/
theorem fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

set_option maxHeartbeats 4000000 in
/-- The tile at grid point `L`, handed its rows of `keys` and of the first result, hands back the former unchanged and
    the latter holding the same. Its waits are on its own transfers alone. -/
theorem tile_body (hF : (K (F := F)).Facts) (O : CellTallies nD τ sig (HIx 1)) (W : Waits sig (HIx 1)) (hO : ∀ g, O g none = 0) :
    iprop(levAts (K (F := F)).L (K (F := F)).lev ∗ emp
        ∗ (keysPts m d (tileRows (cL L) (sL L)) ∗ freshPts m d (tileRows (cL L) (sL L)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_copy L keysV (Memref.isWhole_whole _) copyV (Memref.isWhole_whole _) bufA (Memref.isWhole_whole _)
            bufB (Memref.isWhole_whole _) cc0_scratch2 cc0_scratch3 cc0_scratch4 cc0_scratch5)
          fun _ => iprop((keysPts m d (tileRows (cL L) (sL L)) ∗ donePts m d (tileRows (cL L) (sL L)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_copy_eq_skeleton]; unfold cc0__sc_copy_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold keysPts freshPts donePts
  rw [keys_copies, copy_copies, copy_copies, fin4, fin4, fin4]
  iintro ⟨#Hlv, -, ⟨⟨Hk0, Hk1, Hk2, Hk3⟩, Hc0, Hc1, Hc2, Hc3⟩, ⟨⟨%fa, Ha⟩, ⟨%fb, Hb⟩, Hbufs⟩, ⟨HsRA, HsRB, HsWA, HsWB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hk0' := (Entails.of_eq (pts_keys (F := F) d L (rectRead L) (fun _ => rfl) _ (set_rectRead L) _).symm) $$ Hk0
  ihave Hk1' := (Entails.of_eq (pts_keys (F := F) d L (rect1 L) (fun _ => rfl) _ (set_rect1 L) _).symm) $$ Hk1
  ihave Hk2' := (Entails.of_eq (pts_keys (F := F) d L (rect2 L) (fun _ => rfl) _ (set_rect2 L) _).symm) $$ Hk2
  ihave Hk3' := (Entails.of_eq (pts_keys (F := F) d L (rect3 L) (fun _ => rfl) _ (set_rect3 L) _).symm) $$ Hk3
  ihave Hc0' := (Entails.of_eq (pts_copy (F := F) d L (rect0 L) (fun _ => rfl) _ (set_rect0 L) _).symm) $$ Hc0
  ihave Hc1' := (Entails.of_eq (pts_copy (F := F) d L (rect1 L) (fun _ => rfl) _ (set_rect1 L) _).symm) $$ Hc1
  ihave Hc2' := (Entails.of_eq (pts_copy (F := F) d L (rect2 L) (fun _ => rfl) _ (set_rect2 L) _).symm) $$ Hc2
  ihave Hc3' := (Entails.of_eq (pts_copy (F := F) d L (rect3 L) (fun _ => rfl) _ (set_rect3 L) _).symm) $$ Hc3
  ihave Ha' := (Entails.of_eq (pts_bufA (F := F) d L _).symm) $$ Ha
  ihave Hb' := (Entails.of_eq (pts_bufB (F := F) d L _).symm) $$ Hb
  sl_exec
  sl_step
  unfold tile_body.sl.dma0_1 tile_body.sl.dma0_3 tile_body.sl.dma0_5 tile_body.sl.dma0_7
  isplitl [Hk0' Hk1' Hk2' Hk3' Hc0' Hc1' Hc2' Hc3']
  · isplitl [Hk0' Hk1' Hk2' Hk3']
    · isplitl [Hk0']; · iapply (Entails.of_eq (pts_keys (F := F) d L (rectRead L) (fun _ => rfl) _ (set_rectRead L) _)); iexact Hk0'
      isplitl [Hk1']; · iapply (Entails.of_eq (pts_keys (F := F) d L (rect1 L) (fun _ => rfl) _ (set_rect1 L) _)); iexact Hk1'
      isplitl [Hk2']; · iapply (Entails.of_eq (pts_keys (F := F) d L (rect2 L) (fun _ => rfl) _ (set_rect2 L) _)); iexact Hk2'
      iapply (Entails.of_eq (pts_keys (F := F) d L (rect3 L) (fun _ => rfl) _ (set_rect3 L) _)); iexact Hk3'
    isplitl [Hc0']
    · iapply (Entails.of_eq (pointsTo_congr (written_eq d (off_read L) (k0_off2_inb L 0) (k0_off1_inb L) _ _ _ (read_bufA _ _) _ (set_rect0 L))))
      iapply (Entails.of_eq (pts_copy (F := F) d L (rect0 L) (fun _ => rfl) _ (set_rect0 L) _)); iexact Hc0'
    isplitl [Hc1']
    · iapply (Entails.of_eq (pointsTo_congr (written_eq d rfl (k0_off2_inb L 1) (k0_off2_inb L 1) _ _ _ (read_bufB _ _) _ (set_rect1 L))))
      iapply (Entails.of_eq (pts_copy (F := F) d L (rect1 L) (fun _ => rfl) _ (set_rect1 L) _)); iexact Hc1'
    isplitl [Hc2']
    · iapply (Entails.of_eq (pointsTo_congr (written_eq d rfl (k0_off2_inb L 2) (k0_off2_inb L 2) _ _ _ (read_bufA _ _) _ (set_rect2 L))))
      iapply (Entails.of_eq (pts_copy (F := F) d L (rect2 L) (fun _ => rfl) _ (set_rect2 L) _)); iexact Hc2'
    iapply (Entails.of_eq (pointsTo_congr (written_eq d rfl (k0_off2_inb L 3) (k0_off2_inb L 3) _ _ _ (read_bufB _ _) _ (set_rect3 L))))
    iapply (Entails.of_eq (pts_copy (F := F) d L (rect3 L) (fun _ => rfl) _ (set_rect3 L) _)); iexact Hc3'
  isplitl [Ha' Hb' Hbufs]
  · isplitl [Ha']; · iexists _; iexact Ha'
    isplitl [Hb']; · iexists _; iexact Hb'
    iexact Hbufs
  isplitl [HsRA HsRB HsWA HsWB Hsems]
  · isplitl [HsRA]; · iexact HsRA
    isplitl [HsRB]; · iexact HsRB
    isplitl [HsWA]; · iexact HsWA
    isplitl [HsWB]; · iexact HsWB
    iexact Hsems
  iexists _; isplitr
  swap; · iexact HO
  ipureintro; intro p hp
  simp only [Finset.mem_insert] at hp
  rcases hp with hp | hp | hp | hp | hp | hp | hp | hp | hp
  on_goal 9 => exact .inl hp
  all_goals exact .inr (hp ▸ rfl)

end Cert.Proof.Queue

end
-- ==== Proof.Launch.lean ====
/-
  The SparseCore call: what `@main` hands it, how that is shared out, and that every tile does its part. `@main` hands
  each of the two SparseCores its rows of `keys` and of the first result; a SparseCore hands each of its sixteen tiles
  that tile's; and the same rows come back with the first result's holding what `keys` holds.
-/
module

public import proofs.«01_k».proof.Proof.Tile

@[expose] public section

noncomputable section

namespace Cert.Proof.Queue

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-! ## What the call takes and brings back -/

/-- Rows `I` of `keys` and of the first result, before the copy -/
abbrev before (d : Dev nD) (I : Finset S65536x128.Idx) : sProp 𝕄 := iprop(keysPts m d I ∗ freshPts m d I)
/-- and after it. -/
abbrev copied (d : Dev nD) (I : Finset S65536x128.Idx) : sProp 𝕄 := iprop(keysPts m d I ∗ donePts m d I)

/-- A SparseCore takes its rows and brings them back copied; so does a tile. -/
def P : (K (F := F)).Pay (nD := nD) (Val := Elt F) (Name := ℕ) (U := UU) where
  st := fun q d c => match q with | 0 => before m d (coreRows (Fin.cast nCore_zero c))
  dn := fun q d c => match q with | 0 => copied m d (coreRows (Fin.cast nCore_zero c))
  go := fun q d c i => match q with | 0 => before m d (tileRows (Fin.cast nCore_zero c) (Fin.cast nSub_zero i))
  td := fun q d c i => match q with | 0 => copied m d (tileRows (Fin.cast nCore_zero c) (Fin.cast nSub_zero i))
  x := fun _ _ => iprop(emp)

instance P_storable : (P (F := F) m).IsStorable where
  st q d c := match q with
    | 0 => (inferInstance : BI.Storable (upEmb : UEmb _ 𝕄) (before m d (coreRows (Fin.cast nCore_zero c))))
  dn q d c := match q with
    | 0 => (inferInstance : BI.Storable (upEmb : UEmb _ 𝕄) (copied m d (coreRows (Fin.cast nCore_zero c))))
  go q d c i := match q with
    | 0 => (inferInstance : BI.Storable (upEmb : UEmb _ 𝕄) (before m d (tileRows (Fin.cast nCore_zero c) (Fin.cast nSub_zero i))))
  td q d c i := match q with
    | 0 => (inferInstance : BI.Storable (upEmb : UEmb _ 𝕄) (copied m d (tileRows (Fin.cast nCore_zero c) (Fin.cast nSub_zero i))))

/-! ## A tile's task -/

/-- The grid point of SparseCore `c`, tile `s`. -/
def gridAt (c : Fin (grid0.bound 0)) (s : Fin (grid0.bound 1)) : grid0.Coords :=
  fun | 0 => c | 1 => s | ⟨_ + 2, h⟩ => absurd h (Nat.not_lt.2 (Nat.le_add_left _ _))

/-- The body a tile runs is the kernel at its grid point. -/
theorem defs_tile (c : Fin τ.nSC) (s : Fin τ.nSub) :
    defs₀ (F := F) (.scVector c s) 0 ()
      = SparseCore.onTile hcore0 hsub0 (fun c s => cc0__sc_copy (gridAt c s)
          keysV (Memref.isWhole_whole _) copyV (Memref.isWhole_whole _) bufA (Memref.isWhole_whole _)
          bufB (Memref.isWhole_whole _) cc0_scratch2 cc0_scratch3 cc0_scratch4 cc0_scratch5) ⟨⟩ c s := rfl

omit [FloatOps F] in
/-- Waits on a tile's own transfers are among the waits the launch allows it. -/
theorem own_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr; swap; (· iexact HO)
  ipureintro
  exact fun p hp => (hW' p hp).imp_right Or.inl

set_option maxRecDepth 16384 in
/-- Every tile, handed its rows, brings them back copied. -/
theorem tile_task (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body d (gridAt ⟨_, hci.1⟩ ⟨_, hci.2⟩) m hF O W hO).trans (wp_mono frame _ _ fun _ => own_waits)

/-! ## The rows shared out and gathered -/

omit [FloatOps F] in
/-- A family over the tiles of the call is one over sixteen, -/
theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
/-- and a family over its SparseCores one over two. -/
theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's rows before the copy are its tiles', -/
theorem before_tiles (d : Dev nD) (c : Fin 2) :
    before m d (coreRows c) = (bigSep Finset.univ fun s : Fin 16 => before m d (tileRows c s) : sProp 𝕄) := by
  rw [bigSep_sep']; unfold before keysPts freshPts; rw [keys_tiles, copy_tiles]
/-- and so they are after it; -/
theorem copied_tiles (d : Dev nD) (c : Fin 2) :
    copied m d (coreRows c) = (bigSep Finset.univ fun s : Fin 16 => copied m d (tileRows c s) : sProp 𝕄) := by
  rw [bigSep_sep']; unfold copied keysPts donePts; rw [keys_tiles, copy_tiles]
/-- the whole arrays before the copy are the two SparseCores' rows, -/
theorem before_cores (d : Dev nD) :
    iprop((kLoc d ↦{fullShare} m (kLoc d)) ∗ (cLoc d ↦{fullShare} m (cLoc d)))
      = (bigSep Finset.univ fun c : Fin ((K (F := F)).nCore 0) => (P m).st 0 d c : sProp 𝕄) := by
  refine Eq.trans ?_ (over_cores fun c => before m d (coreRows c)).symm
  rw [bigSep_sep']; unfold keysPts freshPts; rw [keys_cores, copy_cores]
/-- and so they are after it. -/
theorem copied_cores (d : Dev nD) :
    (bigSep Finset.univ fun c : Fin ((K (F := F)).nCore 0) => (P m).dn 0 d c : sProp 𝕄)
      = iprop((kLoc d ↦{fullShare} m (kLoc d)) ∗ (cLoc d ↦{fullShare} (m (kLoc d) : Buf (Elt F) (cLoc d)))) := by
  refine (over_cores fun c => copied m d (coreRows c)).trans ?_
  rw [bigSep_sep']; unfold keysPts donePts; rw [keys_cores, copy_cores]

/-- A SparseCore shares its rows out among its tiles, and gathers them when the tiles are done. -/
theorem share_out : (K (F := F)).VecSplit' (P m) 0 := by
  intro d c
  show before m d (coreRows (Fin.cast nCore_zero c)) ⊢ |={Set.univ}=> iprop(
      (bigSep Finset.univ fun i : Fin ((K (F := F)).nSub 0) => before m d (tileRows (Fin.cast nCore_zero c) (Fin.cast nSub_zero i)))
      ∗ ((bigSep Finset.univ fun i : Fin ((K (F := F)).nSub 0) => copied m d (tileRows (Fin.cast nCore_zero c) (Fin.cast nSub_zero i)))
          -∗ copied m d (coreRows (Fin.cast nCore_zero c))))
  rw [over_tiles (F := F) (fun i => before m d (tileRows (Fin.cast nCore_zero c) i)),
    over_tiles (F := F) (fun i => copied m d (tileRows (Fin.cast nCore_zero c) i)), before_tiles, copied_tiles]
  iintro H; imodintro
  isplitl [H]; · iexact H
  iintro H; iexact H

end Cert.Proof.Queue

end
-- ==== Proof.Shift.lean ====
/-
  What the TensorCore does after the SparseCores have returned. Its pipeline runs over 64 blocks of 1024 rows: at point
  `t` it stages `new_keys` and block `max (t - 1) 0` of `keys`, writes `new_keys` where `t = 0` and the staged block of
  `keys` elsewhere, and puts the result down as block `t` of the second result. When the pipeline is done, the first
  1024 rows of the second result are `new_keys` and row `r` of the others is row `r - 1024` of `keys`.
-/
module

public import proofs.«01_k».proof.Proof.Setup
public import proofs.«01_k».proof.Proof.Gen.KernelIdeal.Skeleton
public import proofs.«01_k».proof.Proof.Gen.KernelIdeal.Points
public import Idealize.ShloMosaic.Lib.VecWindow
public import Idealize.ShloMosaic.Lib.Pipeline.FrameBody
public import Idealize.ShloMosaic.Lib.Pipeline.ValueKit.Geometry

@[expose] public section

noncomputable section

namespace Cert.Proof.Queue

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The shifted queue -/

/-- The row of `new_keys` under an element of the queue's first 1024 rows, -/
def headIx (i : S65536x128.Idx) (h : (i 0).val < 1024) : S1024x128.Idx := fun
  | 0 => ⟨(i 0).val, h⟩
  | 1 => i 1
/-- and the row of `keys` 1024 rows above an element. -/
def tailIx (i : S65536x128.Idx) : S65536x128.Idx := fun
  | 0 => ⟨(i 0).val - 1024, lt_of_le_of_lt (Nat.sub_le _ _) (i 0).isLt⟩
  | 1 => i 1

/-- The queue with `new` put in front and the last 1024 rows of `keys` dropped. -/
def shifted {α : Type} (new : S1024x128.Idx → α) (keys : S65536x128.Idx → α) : S65536x128.Idx → α := fun i =>
  if h : (i 0).val < 1024 then new (headIx i h) else keys (tailIx i)

/-! ## The body, once -/

/-- From the three staging buffers, the body leaves the first two as they were and the third at the choice between
    them. -/
theorem shift_body (c : Dev nD) (i : grid1.Coords) (M0 : Memref sig .tc .vmem S1024x128 .f32) (h0 : M0.IsWhole)
    (M1 : Memref sig .tc .vmem S1024x128 .f32) (h1 : M1.IsWhole) (M2 : Memref sig .tc .vmem S1024x128 .f32) (h2 : M2.IsWhole)
    (X0 X1 X2 : S1024x128.Idx → Elt F .f32) :
    iprop(owns c M0 fullShare X0 ∗ owns c M1 fullShare X1 ∗ owns c M2 fullShare X2)
      ⊢ (wp frame (wpE (defs₀ (F := F)) 𝒱₀ (c : Thread nD τ) none) Set.univ (cc1__tc_grid_body i M0 h0 M1 h1 M2 h2) fun _ =>
          iprop(owns c M0 fullShare X0 ∗ owns c M1 fullShare X1 ∗ owns c M2 fullShare (k1_pay1 i X0 X1)) : sProp 𝕄) := by
  unfold owns
  iintro ⟨⟨%f0, %e0, H0⟩, ⟨%f1, %e1, H1⟩, ⟨%f2, %e2, H2⟩⟩
  simp only [cc1__tc_grid_body_eq_skeleton]
  unfold cc1__tc_grid_body_skel
  sl_exec!
  sl_step
  isplitl [H0]; · iexists f0; isplitr; swap; (· iexact H0); ipureintro; exact e0
  isplitl [H1]; · iexists f1; isplitr; swap; (· iexact H1); ipureintro; exact e1
  iexists _; isplitr; swap; (· iexact H2); ipureintro
  refine (View.read_writes_full M2.view _ inb_S1024x128_S1024x128_0_0 _ []).trans ?_
  have r0 := View.readAt_full (Val := Elt F) M0.view f0 inb_S1024x128_S1024x128_0_0
  have r1 := View.readAt_full (Val := Elt F) M1.view f1 inb_S1024x128_S1024x128_0_0
  exact congrArg₂ (k1_pay1 i) (r0.trans e0) (r1.trans e1)

/-! ## The pipeline's data -/

variable (m : (ℓ : Loc nD τ sig) → Buf (Elt F) ℓ)

/-- What is staged of `new_keys` at point `t`: all of it, -/
abbrev newBlk (c : Dev nD) (t : Fin cfg1.N) : S1024x128.Idx → Elt F .f32 := ((cfg1.win 0).blk t).view.read (Elt F) (m (nLoc c))
/-- and what is staged of `keys`. -/
abbrev keysBlk (c : Dev nD) (t : Fin cfg1.N) : S1024x128.Idx → Elt F .f32 := ((cfg1.win 1).blk t).view.read (Elt F) (m (kLoc c))

/-- The pairs a TensorCore may have waited at before its pipeline runs: those of level at most `b`. -/
abbrev below (c : Dev nD) (b : ℕ) : Set (SemLoc sig × HIx 1) := {p | (K (F := F)).lev ((c : Thread nD τ), p.1) p.2 ≤ b}

/-- The three arrays as the launch left them; after the body, the staged blocks as they were and the result's staging
    buffer at the choice between them; nothing between the points but what the pipeline holds; nothing owed. -/
def dat (b : ℕ) (c : Dev nD) : Dat τ (Elt F) (HIx 1) ℕ UU ℕ cfg1 c where
  A w := match w with
    | ⟨0, _⟩ => m (nLoc c)
    | ⟨1, _⟩ => m (kLoc c)
    | ⟨2, _⟩ => m (qLoc c)
  after w t := match w with
    | ⟨0, _⟩ => newBlk m c t
    | ⟨1, _⟩ => keysBlk m c t
    | ⟨2, _⟩ => k1_pay1 (grid1.coords t) (newBlk m c t) (keysBlk m c t)
  Φ _ := BI.emp
  q _ := fullShare
  owed _ := 0
  recorded _ := below (F := F) c b

/-- `new_keys` is staged when the body runs, -/
theorem before_new (b : ℕ) (c : Dev nD) (t : Fin cfg1.N) (x : S1024x128.Idx → Elt F .f32) : (dat m b c).before 0 t x = newBlk m c t :=
  Dat.before_in_eq_fetched _ 0 rfl (fun _ => rfl) (fun _ _ _ => rfl) (fun _ => rfl) t x
/-- and so is the block of `keys`. -/
theorem before_keys (b : ℕ) (c : Dev nD) (t : Fin cfg1.N) (x : S1024x128.Idx → Elt F .f32) : (dat m b c).before 1 t x = keysBlk m c t :=
  Dat.before_in_eq_fetched _ 1 rfl (fun _ => rfl) (fun _ _ _ => rfl) (fun _ => rfl) t x

/-- The body does at every point what the pipeline asks of it. -/
theorem body_obligation (b : ℕ) (c : Dev nD) : BodyObligation (dat m b c) (defs₀ (F := F)) 𝒱₀ (none : HIx 1) Set.univ := fun t => by
  rw [bigSep_W1, bigSep_W1]
  rw [show (dat m b c).Φ t.castSucc = (BI.emp : sProp 𝕄) from rfl, show (dat m b c).Φ t.succ = (BI.emp : sProp 𝕄) from rfl,
    show (dat m b c).owesAt (none : HIx 1) t.succ = (dat m b c).owesAt (none : HIx 1) t.castSucc from rfl]
  iintro ⟨-, Howes, ⟨%x0, H0⟩, ⟨%x1, H1⟩, ⟨%x2, H2⟩⟩
  rw [before_new, before_keys]
  have hb := shift_body c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2))
    (hstage1_2 ((cfg1.slots t 2).cast nbuf1_2)) (newBlk m c t) (keysBlk m c t) ((dat m b c).before 2 t x2)
  iapply (wp_wand_r frame _ _)
  isplitl [H0 H1 H2]
  · iapply hb
    isplitl [H0]; · iexact H0
    isplitl [H1]; · iexact H1
    iexact H2
  iintro %_ ⟨H0, H1, H2⟩
  isplitr; · iempintro
  isplitl [Howes]; · iexact Howes
  isplitl [H0]; · iexact H0
  isplitl [H1]; · iexact H1
  iexact H2

/-! ## What the second result holds -/

/-- A grid point's coordinate is its number. -/
theorem coords_eq : ∀ t : Fin grid1.N, (grid1.coords t 0).val = t.val := by decide +kernel
/-- The block of `new_keys` is the first at every point, -/
theorem index_new : ∀ t : Fin cfg1.N, win1_0.index t = ![0, 0] := by decide +kernel
/-- that of `keys` the one before the point's own, -/
theorem index_keys : ∀ t : Fin cfg1.N, win1_1.index t = ![t.val - 1, 0] := by decide +kernel
/-- and that of the result the point's own. -/
theorem index_out : ∀ t : Fin cfg1.N, win1_2.index t = ![t.val, 0] := by decide +kernel

/-- The body's test holds at the first point alone. -/
theorem first_iff : ∀ t : Fin grid1.N, Scalar.cmpi .eq (BitVec.ofNat 32 (grid1.coords t 0).val) 0#32 = 1 ↔ t.val = 0 := by
  decide +kernel

omit [FloatOps F] in
/-- The body's choice, by the point's number. -/
theorem choice_eq [FloatOps F] (t : Fin cfg1.N) (x y : S1024x128.Idx → Elt F .f32) :
    k1_pay1 (grid1.coords t) x y = if t.val = 0 then x else y :=
  if_congr (first_iff t) rfl rfl

/-- Where an element of block `t` of the result lies, -/
theorem emb_out (t : Fin cfg1.N) (y : S1024x128.Idx) :
    (((((cfg1.win 2).blk t).view.emb y : S65536x128.Idx) 0).val = t.val * 1024 + (y 0).val)
      ∧ (((cfg1.win 2).blk t).view.emb y : S65536x128.Idx) 1 = y 1 := by
  refine ⟨?_, Fin.ext ?_⟩
  · blk_simp
    rw [index_out]
    rfl
  · blk_simp
    rw [index_out]
    simp
/-- an element of what is staged of `new_keys`, -/
theorem emb_new (t : Fin cfg1.N) (y : S1024x128.Idx) : (((cfg1.win 0).blk t).view.emb y : S1024x128.Idx) = y := by
  funext a
  refine Fin.ext ?_
  revert a
  refine Fin.forall_fin_two.mpr ⟨?_, ?_⟩
  · blk_simp
    rw [index_new]
    simp
  · blk_simp
    rw [index_new]
    simp
/-- and an element of what is staged of `keys`. -/
theorem emb_keys (t : Fin cfg1.N) (y : S1024x128.Idx) :
    (((((cfg1.win 1).blk t).view.emb y : S65536x128.Idx) 0).val = (t.val - 1) * 1024 + (y 0).val)
      ∧ (((cfg1.win 1).blk t).view.emb y : S65536x128.Idx) 1 = y 1 := by
  refine ⟨?_, Fin.ext ?_⟩
  · blk_simp
    rw [index_keys]
    rfl
  · blk_simp
    rw [index_keys]
    simp

/-- Block `t` of the shifted queue is what the body chose at `t`. -/
theorem block_shifted (c : Dev nD) (t : Fin cfg1.N) (y : S1024x128.Idx) :
    k1_pay1 (grid1.coords t) (newBlk m c t) (keysBlk m c t) y
      = (shifted (m (nLoc c)) (m (kLoc c)) : S65536x128.Idx → Elt F .f32) (((cfg1.win 2).blk t).view.emb y) := by
  have hy : (y 0).val < 1024 := (y 0).isLt
  obtain ⟨o0, o1⟩ := emb_out t y
  rw [choice_eq]
  unfold shifted
  by_cases h : t.val = 0
  · have hlt : ((((cfg1.win 2).blk t).view.emb y : S65536x128.Idx) 0).val < 1024 := by rw [o0, h]; omega
    rw [if_pos h, dif_pos hlt]
    refine congrArg (m (nLoc c)) ((emb_new t y).trans (funext fun a => ?_))
    revert a
    refine Fin.forall_fin_two.mpr ⟨Fin.ext ?_, o1.symm⟩
    change (y 0).val = ((((cfg1.win 2).blk t).view.emb y : S65536x128.Idx) 0).val
    rw [o0, h]; omega
  · have hlt : ¬ ((((cfg1.win 2).blk t).view.emb y : S65536x128.Idx) 0).val < 1024 := by rw [o0]; omega
    rw [if_neg h, dif_neg hlt]
    obtain ⟨k0, k1⟩ := emb_keys t y
    refine congrArg (m (kLoc c)) (funext fun a => ?_)
    revert a
    refine Fin.forall_fin_two.mpr ⟨Fin.ext ?_, k1.trans o1.symm⟩
    refine k0.trans ?_
    change _ = ((((cfg1.win 2).blk t).view.emb y : S65536x128.Idx) 0).val - 1024
    rw [o0]; omega

/-- After the last point the second result is the shifted queue. -/
theorem result_eq (b : ℕ) (c : Dev nD) :
    (dat m b c).arrAt 2 cfg1.N = (shifted (m (nLoc c)) (m (kLoc c)) : S65536x128.Idx → Elt F .f32) :=
  (dat m b c).arrAt_eq_of_covers 2 _ (by decide +kernel) (fun t _ y => block_shifted m c t y) (Memref.isWhole_whole _)

end Cert.Proof.Queue

end
-- ==== Proof.Region.lean ====
/-
  The TensorCore's pipeline as one step of `@main`: entered with the two arguments and the second result in hand, it
  leaves the arguments as they were and the second result at the shifted queue.
-/
module

public import proofs.«01_k».proof.Proof.Shift

@[expose] public section

noncomputable section

namespace Cert.Proof.Queue

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

variable (m : (ℓ : Loc nD τ sig) → Buf (Elt F) ℓ)

/-! ## The pipeline as a step of the TensorCore -/

/-- The pipeline is the only one, and admissible. -/
abbrev adm : (p : Fin 1) → (pcfgs (F := F) p).Adm := fun p => (cfgs p).toPCfg_adm

/-- Its data, as the one pipeline's. -/
def pdats (b : ℕ) : (p : Fin 1) → (c : Dev nD) → Dat τ (Elt F) (HIx 1) ℕ UU ℕ (Pipeline.pin (pcfgs (F := F)) adm p) c
  | ⟨0, _⟩ => fun c => dat m b c

/-- What the TensorCore holds beside the arrays: no debt, and a bound on the levels it has waited at. -/
abbrev settled (b : ℕ) (c : Dev nD) : sProp 𝕄 :=
  iprop(∃ W, ⌜(K (F := F)).WBelow (c : Thread nD τ) W b⌝ ∗ owes (c : Thread nD τ) (0 : CellTallies nD τ sig (HIx 1)) W)

/-- The three arrays of the pipeline, one by one. -/
theorem arrays_open (b : ℕ) (c : Dev nD) (G : (w : Fin 3) → Buf (Elt F) ((cfg1.win w).arr.view.loc (c : Thread nD τ))) :
    ((dat m b c).arrays G : sProp 𝕄)
      = iprop((nLoc c ↦{fullShare} (G 0 : Buf (Elt F) (nLoc c))) ∗ (kLoc c ↦{fullShare} (G 1 : Buf (Elt F) (kLoc c)))
          ∗ (qLoc c ↦{fullShare} (G 2 : Buf (Elt F) (qLoc c)))) := by
  unfold Pipeline.Dat.arrays
  rw [bigSep_W1]
  have e0 : (cfg1.win 0).arr.view.set = Finset.univ := View.set_whole _
  have e1 : (cfg1.win 1).arr.view.set = Finset.univ := View.set_whole _
  have e2 : (cfg1.win 2).arr.view.set = Finset.univ := View.set_whole _
  have s0 : (dat m b c).share 0 = fullShare := rfl
  have s1 : (dat m b c).share 1 = fullShare := rfl
  have s2 : (dat m b c).share 2 = fullShare := rfl
  rw [e0, e1, e2, s0, s1, s2]

/-- The arrays as the launch left them are the arrays as the pipeline finds them, -/
theorem arrays_entry (b : ℕ) (c : Dev nD) :
    (iprop((nLoc c ↦{fullShare} m (nLoc c)) ∗ (kLoc c ↦{fullShare} m (kLoc c)) ∗ (qLoc c ↦{fullShare} m (qLoc c))) : sProp 𝕄)
      = (dat m b c).arrays ((dat m b c).arrAt · 0) :=
  (arrays_open m b c fun w => (dat m b c).arrAt w 0).symm
/-- and the arrays as it leaves them are the arguments as they were, and the shifted queue. -/
theorem arrays_exit (b : ℕ) (c : Dev nD) :
    ((dat m b c).arrays ((dat m b c).arrAt · cfg1.N) : sProp 𝕄)
      = iprop((nLoc c ↦{fullShare} m (nLoc c)) ∗ (kLoc c ↦{fullShare} m (kLoc c))
        ∗ (qLoc c ↦{fullShare} (shifted (m (nLoc c)) (m (kLoc c)) : Buf (Elt F) (qLoc c)))) := by
  have hn : (dat m b c).arrAt 0 cfg1.N = m (nLoc c) := (dat m b c).arrAt_in 0 rfl _
  have hk : (dat m b c).arrAt 1 cfg1.N = m (kLoc c) := (dat m b c).arrAt_in 1 rfl _
  have hq := result_eq m b c
  refine (arrays_open m b c fun w => (dat m b c).arrAt w cfg1.N).trans ?_
  rw [hn, hk, hq]

set_option backward.isDefEq.respectTransparency.types false in
/-- The pipeline, entered with the two arguments and the second result held, leaves the arguments as they were and the
    second result at the shifted queue. -/
def shiftSeg (b : ℕ) : Pipeline.RegionSeg (pcfgs (F := F)) adm (pdats m b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m b c).loose
  hwaits := Pipeline.hwaits_of_owed_zero _ _ _ _ (K (F := F)).L (K (F := F)).lev 0 fun _ _ => rfl
  pre c := iprop((nLoc c ↦{fullShare} m (nLoc c)) ∗ (kLoc c ↦{fullShare} m (kLoc c)) ∗ (qLoc c ↦{fullShare} m (qLoc c)) ∗ settled b c)
  post c := iprop((nLoc c ↦{fullShare} m (nLoc c)) ∗ (kLoc c ↦{fullShare} m (kLoc c))
    ∗ (qLoc c ↦{fullShare} (shifted (m (nLoc c)) (m (kLoc c)) : Buf (Elt F) (qLoc c))) ∗ settled b c)
  X _ := BI.emp
  Y _ := BI.emp
  Z _ := BI.emp
  hentry c := by
    rw [Pipeline.ownSems0_none, show (pdats m b 0 c).arrays ((pdats m b 0 c).arrAt · 0) = _ from (arrays_entry m b c).symm]
    iintro ⟨⟨Hn, Hk, Hq, HO⟩, -, -⟩
    imodintro
    isplitl [Hn Hk Hq]
    · isplitl [Hn]; · iexact Hn
      isplitl [Hk]; · iexact Hk
      iexact Hq
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdats m b 0 c).Φ 0 = (BI.emp : sProp 𝕄) from rfl]
    iintro -; iempintro
  hout c := by
    rw [Pipeline.ownSems0_none, show (pdats m b 0 c).Φ (Fin.last _) = (BI.emp : sProp 𝕄) from rfl, show Pipeline.pin (pcfgs (F := F)) adm 0 = cfg1 from rfl, scopedRest1_eq]
    iintro -
    isplitr; · iempintro
    isplitr <;> iempintro
  hexit c := by
    rw [show (pdats m b 0 c).arrays ((pdats m b 0 c).arrAt · cfg1.N) = _ from arrays_exit m b c]
    iintro ⟨⟨Hn, Hk, Hq⟩, HO, -, -⟩
    imodintro
    isplitl [Hn]; · iexact Hn
    isplitl [Hk]; · iexact Hk
    isplitl [Hq]; · iexact Hq
    unfold Pipeline.Dat.owesAt Pipeline.owesWithin
    icases HO with ⟨%W, %hW, HO⟩; iexists W; isplitr; swap; (· iexact HO); ipureintro
    intro p hp
    rcases hW hp with h | ⟨w, s, h⟩
    · exact h
    · rw [h]; exact Nat.zero_le _

end Cert.Proof.Queue

end
-- ==== Proof.Main.lean ====
/-
  The whole program: `@main` calls the SparseCores, then runs the TensorCore's pipeline. Whatever the launch finds in
  memory, when every thread has returned the two arguments are as they were, the first result holds `keys`, the second
  the shifted queue, and every semaphore is at zero.
-/
module

public import proofs.«01_k».proof.Proof.Launch
public import proofs.«01_k».proof.Proof.Region

@[expose] public section

noncomputable section

namespace Cert.Proof.Queue

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state dealt at launch -/

/-- The handshakes' rounds and the pipeline's, all unplayed. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What a TensorCore is dealt for its pipeline. -/
abbrev dealt (d : Dev nD) : sProp 𝕄 :=
  iprop(Pipeline.cellsGhost (Pipeline.pin (pcfgs (F := F)) adm) EP 0 d ∗ Pipeline.toksInit (Pipeline.pin (pcfgs (F := F)) adm) EP 0 d)

/-- The launch's ghost state is the handshakes' and what each TensorCore is dealt; the tiles are dealt nothing. -/
theorem deal : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) := by
    rw [show (bigSep Finset.univ fun thr : Thread nD τ => bigSep Finset.univ fun q : Fin 1 => (P (F := F) m).x q thr)
      = bigSep Finset.univ fun _ => iprop(emp) from bigSep_congr fun _ _ => bigSep_univ_of_subsingleton (0 : Fin 1)]
    exact bigSep_emp_const _
  have hp : (BI.own (((Emb.inl : Emb UP (UP × Counters)).trans (embR : Emb (UP × Counters) 𝕄)) (initOf (Pipeline.cells (nD := nD) (τ := τ) cfgs cellOf_inj) (Pipeline.launchToks (nD := nD) (τ := τ) cfgs cellOf_inj))) : sProp 𝕄)
      ⊢ |==> (bigSep Finset.univ fun d : Dev nD => dealt d) := by
    refine (Pipeline.fund_ghost cfgs EP cellOf_inj).trans (BI.bupd_mono ?_)
    rw [← bigSep_sep']
    refine bigSep_mono fun d _ => ?_
    rw [bigSep_univ_of_subsingleton (0 : Fin 1), bigSep_univ_of_subsingleton (0 : Fin 1)]
    exact BI.Entails.refl _
  unfold u₀
  rw [hx]
  iintro Hu
  ihave H := (ownU_pair (initOf (K (F := F)).hsCells (K (F := F)).hsToks) _) $$ Hu
  icases H with ⟨HH, Hr⟩
  ihave H := (own_pair_emb embR _ (1 : Counters)) $$ Hr
  icases H with ⟨Hp, -⟩
  imod hp $$ Hp with Hd
  imodintro
  isplitl [HH]; · iexact HH
  isplitl [Hd]; · iexact Hd
  iempintro

/-! ## `@main` -/

omit [FloatOps F] in
/-- The arrays of `@main`, one by one. -/
theorem arrays_main (d : Dev nD) (W : (b : Ref sig .tc) → Buf (Elt F) ((d.tc : Thread nD τ).loc b)) :
    (unscopedBufs d W : sProp 𝕄) = iprop((nLoc d ↦{fullShare} W main_arg0) ∗ (kLoc d ↦{fullShare} W main_arg1)
      ∗ (cLoc d ↦{fullShare} W main_v0) ∗ qLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The pipeline's call among the kernels, -/
abbrev pipeCall : Prog (TpuEff nD τ sig (Elt F) (ΛP (F := F)) .tc) PUnit := .op (.customCall (Pipeline.entry 0) ()) .ret
/-- and in the whole program. -/
theorem lift_pipeCall : (SparseCore.liftProg (pipeCall (F := F)) : Prog (TpuEff nD τ sig (Elt F) (SparseCore.Sig (ΛP (F := F)) 1) .tc) PUnit)
    = Prog.lift (.customCall (SparseCore.inner (Pipeline.entry 0)) ()) := rfl

/-- The pipeline's call, as `@main` makes it. -/
theorem pipeline_wp [∀ e, Nonempty (Elt F e)] (b : ℕ) (d : Dev nD) (Q : PUnit → sProp 𝕄) :
    iprop((iprop(boundary (d : Thread nD τ) ∗ (shiftSeg m b).post d) -∗ Q ⟨⟩)
        ∗ boundary (d : Thread nD τ) ∗ (shiftSeg m b).pre d ∗ levAts (K (F := F)).L (K (F := F)).lev ∗ dealt d)
      ⊢ wp frame (wpE ((K (F := F)).defs (D (F := F))) 𝒱 (SparseCore.T d) none) Set.univ
          (Prog.lift (.customCall (SparseCore.inner (Pipeline.entry 0)) ())) Q := by
  rw [← lift_pipeCall]
  have hw := ((shiftSeg m b).wp (pcfgs (F := F)) adm (pdats m b) (none : HIx 1) cellOf_inj EP defs₀ 𝒱₀ (K (F := F)).L (K (F := F)).lev d none
    (fun _ h => nomatch h) .ret Q).trans ((K (F := F)).wp_liftProg (D (F := F)) 𝒱 (SparseCore.T d) Set.univ none (pipeCall (F := F)) Q)
  iintro ⟨Hk, Hb, Hpre, HL, Hg⟩
  iapply hw
  isplitl [Hk]
  · iintro H
    ihave H' := Hk $$ H
    iapply (show (Q ⟨⟩ : sProp 𝕄) ⊢ wp frame (wpE (Pipeline.defs pcfgs defs₀) 𝒱 (d : Thread nD τ) none) Set.univ (pure ⟨⟩) Q by
      rw [wp_pure]; exact fupd_intro)
    iexact H'
  isplitl [Hb]; · iexact Hb
  isplitl [Hpre]; · iexact Hpre
  isplitl [HL]; · iexact HL
  iexact Hg

/-- What `@main` ends with: the arguments as they were, `keys` in the first result, the shifted queue in the second. -/
abbrev finish (d : Dev nD) : sProp 𝕄 :=
  iprop((nLoc d ↦{fullShare} m (nLoc d)) ∗ (kLoc d ↦{fullShare} m (kLoc d)) ∗ (cLoc d ↦{fullShare} (m (kLoc d) : Buf (Elt F) (cLoc d)))
    ∗ (qLoc d ↦{fullShare} (shifted (m (nLoc d)) (m (kLoc d)) : Buf (Elt F) (qLoc d))))

/-- Before the second call, the TensorCore owes nothing more. -/
theorem nothing_owed (d : Dev nD) : (K (F := F)).Otc d 1 = 0 := by
  unfold SparseCore.Cfg.Otc
  exact Finset.sum_eq_zero fun q _ => if_neg (by have := q.isLt; omega)

/-- `@main` on a device's TensorCore. -/
theorem main_wp [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 1 ∗ finish m d ∗ (K (F := F)).tcEnd d) := by
  unfold SparseCore.Cfg.tcRes SparseCore.Cfg.tcEnd
  rw [arrays_main]
  simp only [main, wp_bind, wp_pure]
  iintro ⟨#Hctx, Hst, ⟨Hb, ⟨Hn, Hk, Hc, Hq⟩, Hts, -⟩, Hg⟩
  iapply ((K (F := F)).wp_run (D (F := F)) 𝒱 (EH := EH) (P := P m) κ d 0)
  isplitr; · iexact Hctx
  isplitl [Hst]; · iexact Hst
  isplitl [Hk Hc]
  · rw [← before_cores]
    isplitl [Hk] <;> iassumption
  rw [copied_cores]
  iintro ⟨Hst, Hk, Hc⟩
  ihave HL := (SparseCore.Cfg.ctx_levAts κ) $$ Hctx
  unfold SparseCore.Cfg.tcSt
  icases Hst with ⟨⟨%W, %hW, HO⟩, Hrest⟩
  have h0 : (K (F := F)).Otc d ((0 : Fin 1).val + 1) = 0 := nothing_owed d
  rw [nothing_owed, h0]
  iapply (pipeline_wp m 8 d _)
  isplitl [Hrest Hc Hts]
  · unfold shiftSeg
    dsimp only
    iintro ⟨Hb, Hn, Hk, Hq, HO⟩
    imodintro
    isplitl [Hrest HO]
    · isplitl [HO]; · iexact HO
      iexact Hrest
    isplitr [Hb Hts]
    · isplitl [Hn]; · iexact Hn
      isplitl [Hk]; · iexact Hk
      isplitl [Hc]; · iexact Hc
      iexact Hq
    isplitl [Hb] <;> iassumption
  isplitl [Hb]; · iexact Hb
  isplitl [Hn Hk Hq HO]
  · unfold shiftSeg
    dsimp only
    isplitl [Hn]; · iexact Hn
    isplitl [Hk]; · iexact Hk
    isplitl [Hq]; · iexact Hq
    iexists W; isplitr; swap; (· iexact HO); ipureintro; exact hW
  isplitl [HL]; · iexact HL
  iexact Hg

/-! ## The end of the run -/

/-- What a device's memory holds at the end. -/
def Ends (d : Dev nD) (μ : (ℓ : Loc nD τ sig) → Buf (Elt F) ℓ) : Prop :=
  μ (nLoc d) = m (nLoc d) ∧ μ (kLoc d) = m (kLoc d) ∧ μ (cLoc d) = (m (kLoc d) : Buf (Elt F) (cLoc d))
    ∧ μ (qLoc d) = (shifted (m (nLoc d)) (m (kLoc d)) : Buf (Elt F) (qLoc d))

omit [FloatOps F] in
/-- A whole array held at `f` is what the memory holds. -/
theorem held_agree {ℓ : Loc nD τ sig} {f : Buf (Elt F) ℓ} {R : sProp 𝕄} (s' : Phys nD τ sig (Elt F)) :
    iprop(((ℓ ↦{fullShare} f) ∗ R) ∗ SI s') ⊢ iprop(⌜s'.mem.mem ℓ = f⌝ ∗ R ∗ SI s') := by
  iintro ⟨⟨H, HR⟩, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  isplitl [HR] <;> iassumption

set_option maxRecDepth 16384 in
/-- What `@main` ends with is what the memory holds. -/
theorem finish_agree (d : Dev nD) (s' : Phys nD τ sig (Elt F)) : iprop(finish m d ∗ SI s') ⊢ (⌜Ends m d s'.mem.mem⌝ : sProp 𝕄) := by
  iintro H
  ihave H := (held_agree s') $$ H
  icases H with ⟨%h1, H⟩
  ihave H := (held_agree s') $$ H
  icases H with ⟨%h2, H⟩
  ihave H := (held_agree s') $$ H
  icases H with ⟨%h3, Hq, HSI⟩
  ihave H := (SI_pointsTo_agree (st := s') (ℓ := qLoc d) (I := Finset.univ) (q := fullShare)
    (f := (shifted (m (nLoc d)) (m (kLoc d)) : Buf (Elt F) (qLoc d)))) $$ [HSI Hq]
  · isplitl [HSI] <;> iassumption
  icases H with %h4
  ipureintro
  exact ⟨h1, h2, h3, funext fun i => h4 i (Finset.mem_univ i)⟩

/-- What holds when every thread has returned. -/
def Done (r : PUnit × MemSt nD τ sig (Elt F)) : Prop := (∀ d : Dev nD, Ends m d r.2.mem) ∧ r.2.sem = fun _ => 0

/-- Every run of the program returns, with the results in place. -/
theorem run [∀ e, Nonempty (Elt F e)] :
    θ_run (Cert.KernelIdeal.defs (F := F)) (Cert.KernelIdeal.threads (F := F)) ⟨m, fun _ => 0, ρ⟩ (Done m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tile_task m facts)
    (fun q _ => match q with | 0 => SparseCore.Cfg.VecSplit.of_plain (share_out m))
    m ρ main (fun d => dealt d) (finish m) (u₀ (F := F)) (sep_elim_left.trans (deal m)) (main_wp m ρ) (fun d s' => Ends m d s'.mem.mem)
    (finish_agree m) (Done m) (fun _ h hz => ⟨h, hz⟩)

/-- In particular the arguments end as they were and every semaphore at zero. -/
theorem run_keeps [∀ e, Nonempty (Elt F e)] :
    θ_run (Cert.KernelIdeal.defs (F := F)) (Cert.KernelIdeal.threads (F := F)) ⟨m, fun _ => 0, ρ⟩
      (fun r => (∀ d : Dev nD, r.2.mem (nLoc d) = m (nLoc d) ∧ r.2.mem (kLoc d) = m (kLoc d)) ∧ r.2.sem = fun _ => 0) :=
  (θ_run Cert.KernelIdeal.defs _ _).mono (fun _ h => ⟨fun d => ⟨(h.1 d).1, (h.1 d).2.1⟩, h.2⟩) (run m ρ)

end Cert.Proof.Queue

end
-- ==== Proof.Reference.lean ====
/-
  What the reference computes: it joins `new_keys` and `keys` along the rows and keeps the first 65536 rows of the 66560.
  That is the shifted queue.
-/
module

public import proofs.«01_k».proof.Proof.Shift
public import proofs.«01_k».proof.Proof.Gen.ReferenceIdeal.Run
public import Idealize.ShloMosaic.Lib.Pipeline.Value

@[expose] public section

noncomputable section

namespace Cert.Proof.Queue

open Idealize.ShloMosaic
open Cert.ReferenceIdeal (S1024x128 S65536x128 S66560x128)

/-- Where an element of the kept rows lies among the joined ones. -/
def joinIx (i : S65536x128.Idx) : S66560x128.Idx := fun
  | 0 => ⟨(i 0).val, Nat.lt_of_lt_of_le (i 0).isLt (by decide)⟩
  | 1 => i 1

/-- The first 65536 rows of the joined arrays are the shifted queue. -/
theorem kept_rows {α : Type} (new : S1024x128.Idx → α) (keys : S65536x128.Idx → α)
    (hc : Shape.Concatenates [S1024x128, S65536x128] S66560x128 0) (hs : S66560x128.Slices ![0, 0] S65536x128) :
    extractStridedSlice S65536x128 ![0, 0] (concatenate S66560x128 0 [⟨S1024x128, new⟩, ⟨S65536x128, keys⟩] hc) hs
      = shifted new keys := by
  funext i
  rw [extractStridedSlice_apply ![0, 0] _ hs i (joinIx i) (Fin.forall_fin_two.mpr ⟨(Nat.zero_add _).symm, (Nat.zero_add _).symm⟩)]
  unfold shifted
  by_cases h : (i 0).val < 1024
  · rw [dif_pos h]
    exact concatenate_pair_apply_left 0 new keys hc (joinIx i) rfl (headIx i h) (Fin.forall_fin_two.mpr ⟨rfl, rfl⟩)
  · rw [dif_neg h]
    exact concatenate_pair_apply_right 0 new keys hc (joinIx i) rfl rfl (tailIx i)
      (Fin.forall_fin_two.mpr ⟨fun h0 => absurd rfl h0, fun _ => rfl⟩)
      (Nat.sub_add_cancel (Nat.not_lt.mp h))

end Cert.Proof.Queue

end
-- ==== Proof.lean ====
/-
  The five claims. The program is run once, for any float values (`Proof/Main.lean`): the arguments end as they were, the
  first result holds `keys`, the second the shifted queue, every semaphore is at zero. Read at bits that is the frame of
  the kernel, read at extended reals the frame of its idealization and the kernel's side of the equation; the reference's
  side is `Proof/Reference.lean`. No operation was replaced, so there is nothing to preserve.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.Reference
public import Idealize.ShloMosaic.Adequacy
public import Idealize.ShloMosaic.Init

@[expose] public section

noncomputable section

namespace Cert.Proof

open Idealize.ShloMosaic Idealize.SL.Sem

/-- The kernels' bodies are the same in the program and in its idealization, read at the same float values; -/
theorem same_bodies : Cert.Kernel.defs₀ (F := Bits) = Cert.KernelIdeal.defs₀ (F := Bits) := by
  funext p ℓ a
  match p, ℓ, a with
  | .tc, ⟨0, _⟩, _ => rfl
  | .tc, ⟨1, _⟩, _ => rfl
  | .scVector _ _, ⟨0, _⟩, _ => rfl
  | .scVector _ _, ⟨1, _⟩, _ => rfl
  | .scScalar _, ⟨0, _⟩, _ => rfl
  | .scScalar _, ⟨1, _⟩, _ => rfl
/-- so is the table of everything the program calls. -/
theorem same_table : Cert.Kernel.defs (F := Bits) = Cert.KernelIdeal.defs (F := Bits) :=
  congrArg (fun x => Cert.KernelIdeal.sc.defs (Pipeline.defs Cert.KernelIdeal.pcfgs x)) same_bodies

/-- The kernel runs, leaves its arguments as they were and every semaphore at zero. -/
theorem frame_kernel : Cert.quiescent_Kernel := by
  intro m ρ _
  rw [same_table]
  exact Queue.run_keeps (F := Bits) m ρ

/-- So does its idealization. -/
theorem frame_kernelIdeal : Cert.quiescent_KernelIdeal := fun m ρ _ => Queue.run_keeps (F := Ideal) m ρ

/-- So does the reference, which has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The two results of the idealized kernel are the reference's: `keys`, and the shifted queue. -/
theorem equal_results : Cert.algebraic_KernelIdeal_ReferenceIdeal := by
  intro m ρ m' ρ' _ agree
  refine ⟨fun c => m ((c.tc : Thread Cert.KernelIdeal.nD Cert.KernelIdeal.τ).loc Cert.KernelIdeal.main_arg1),
    fun c => Queue.shifted (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h.1 c).2.2.1, (h.1 c).2.2.2, (h.1 c).1, (h.1 c).2.1⟩) (Queue.run (F := Ideal) m ρ)
  · refine (θ_run Cert.ReferenceIdeal.defs _ _).mono (fun _ h c => ?_) (Cert.ReferenceIdeal.Value.run (F := Ideal) m' ρ')
    obtain ⟨hk, hq, hn, hk'⟩ := h c
    refine ⟨hk.trans (agree c).2, hq.trans ?_, hn, hk'⟩
    rw [(agree c).1, (agree c).2]
    exact Queue.kept_rows _ _ _ _

/-- All five claims. -/
theorem claim : Cert.Claim :=
  ⟨Cert.Kernel.Gen.facts, Cert.KernelIdeal.Gen.facts, Cert.ReferenceIdeal.Gen.facts,
    frame_kernel, frame_kernelIdeal, frame_reference, trivial, equal_results⟩

end Cert.Proof

end
